-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x128 : Shape := ⟨2, ![10000, 128]⟩
abbrev S2x320000 : Shape := ⟨2, ![2, 320000]⟩
abbrev S128x128 : Shape := ⟨2, ![128, 128]⟩
abbrev S128 : Shape := ⟨1, ![128]⟩
abbrev S_ : Shape := ⟨0, ![]⟩
abbrev S1x128 : Shape := ⟨2, ![1, 128]⟩
abbrev S4x1000x128 : Shape := ⟨3, ![4, 1000, 128]⟩
abbrev S4 : Shape := ⟨1, ![4]⟩
abbrev S1 : Shape := ⟨1, ![1]⟩
abbrev S1x1000x128 : Shape := ⟨3, ![1, 1000, 128]⟩
abbrev S1000x128 : Shape := ⟨2, ![1000, 128]⟩

abbrev nBuf : Space → Nat
  | .hbm => 8
  | .vmem => 4
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S128x128, .f32⟩
  | .hbm, ⟨3, _⟩ => ⟨S128, .f32⟩
  | .hbm, ⟨4, _⟩ => ⟨S_, .f32⟩
  | .hbm, ⟨5, _⟩ => ⟨S128x128, .f32⟩
  | .hbm, ⟨6, _⟩ => ⟨S1x128, .f32⟩
  | .hbm, ⟨7, _⟩ => ⟨S10000x128, .f32⟩
  | .local _ .vmem, ⟨0, _⟩ => ⟨S128x128, .f32⟩
  | .local _ .vmem, ⟨1, _⟩ => ⟨S1x128, .f32⟩
  | .local _ .vmem, ⟨2, _⟩ => ⟨S4x1000x128, .f32⟩
  | .local _ .vmem, ⟨3, _⟩ => ⟨S4x1000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S10000x128 : Shape := ⟨2, ![10000, 128]⟩
abbrev S2x320000 : Shape := ⟨2, ![2, 320000]⟩
abbrev S128x128 : Shape := ⟨2, ![128, 128]⟩
abbrev S128 : Shape := ⟨1, ![128]⟩
abbrev S_ : Shape := ⟨0, ![]⟩
abbrev S1x320000 : Shape := ⟨2, ![1, 320000]⟩
abbrev S320000 : Shape := ⟨1, ![320000]⟩
abbrev S320000x1 : Shape := ⟨2, ![320000, 1]⟩
abbrev S1 : Shape := ⟨1, ![1]⟩
abbrev S1x1 : Shape := ⟨2, ![1, 1]⟩
abbrev S320000x128 : Shape := ⟨2, ![320000, 128]⟩
abbrev S10000 : Shape := ⟨1, ![10000]⟩
abbrev S10000x1 : Shape := ⟨2, ![10000, 1]⟩
abbrev S1x128 : Shape := ⟨2, ![1, 128]⟩

abbrev nBuf : Space → Nat
  | .hbm => 69
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S128x128, .f32⟩
  | .hbm, ⟨3, _⟩ => ⟨S128, .f32⟩
  | .hbm, ⟨4, _⟩ => ⟨S_, .f32⟩
  | .hbm, ⟨5, _⟩ => ⟨S1x320000, .i32⟩
  | .hbm, ⟨6, _⟩ => ⟨S320000, .i32⟩
  | .hbm, ⟨7, _⟩ => ⟨S1x320000, .i32⟩
  | .hbm, ⟨8, _⟩ => ⟨S320000, .i32⟩
  | .hbm, ⟨9, _⟩ => ⟨S_, .i32⟩
  | .hbm, ⟨10, _⟩ => ⟨S320000, .i32⟩
  | .hbm, ⟨11, _⟩ => ⟨S320000, .i1⟩
  | .hbm, ⟨12, _⟩ => ⟨S_, .i32⟩
  | .hbm, ⟨13, _⟩ => ⟨S320000, .i32⟩
  | .hbm, ⟨14, _⟩ => ⟨S320000, .i32⟩
  | .hbm, ⟨15, _⟩ => ⟨S320000, .i32⟩
  | .hbm, ⟨16, _⟩ => ⟨S320000x1, .i32⟩
  | .hbm, ⟨17, _⟩ => ⟨S1, .i32⟩
  | .hbm, ⟨18, _⟩ => ⟨S_, .i32⟩
  | .hbm, ⟨19, _⟩ => ⟨S320000x1, .i32⟩
  | .hbm, ⟨20, _⟩ => ⟨S320000x1, .i1⟩
  | .hbm, ⟨21, _⟩ => ⟨S1x1, .i32⟩
  | .hbm, ⟨22, _⟩ => ⟨S320000x1, .i32⟩
  | .hbm, ⟨23, _⟩ => ⟨S320000x1, .i1⟩
  | .hbm, ⟨24, _⟩ => ⟨S320000x1, .i1⟩
  | .hbm, ⟨25, _⟩ => ⟨S_, .i1⟩
  | .hbm, ⟨26, _⟩ => ⟨S320000, .i1⟩
  | .hbm, ⟨27, _⟩ => ⟨S320000x128, .f32⟩
  | .hbm, ⟨28, _⟩ => ⟨S320000x128, .i1⟩
  | .hbm, ⟨29, _⟩ => ⟨S_, .f32⟩
  | .hbm, ⟨30, _⟩ => ⟨S320000x128, .f32⟩
  | .hbm, ⟨31, _⟩ => ⟨S320000x128, .f32⟩
  | .hbm, ⟨32, _⟩ => ⟨S_, .f32⟩
  | .hbm, ⟨33, _⟩ => ⟨S10000x128, .f32⟩
  | .hbm, ⟨34, _⟩ => ⟨S320000x1, .i32⟩
  | .hbm, ⟨35, _⟩ => ⟨S10000x128, .f32⟩
  | .hbm, ⟨36, _⟩ => ⟨S_, .f32⟩
  | .hbm, ⟨37, _⟩ => ⟨S320000, .f32⟩
  | .hbm, ⟨38, _⟩ => ⟨S_, .f32⟩
  | .hbm, ⟨39, _⟩ => ⟨S10000, .f32⟩
  | .hbm, ⟨40, _⟩ => ⟨S320000x1, .i32⟩
  | .hbm, ⟨41, _⟩ => ⟨S10000, .f32⟩
  | .hbm, ⟨42, _⟩ => ⟨S_, .f32⟩
  | .hbm, ⟨43, _⟩ => ⟨S10000, .f32⟩
  | .hbm, ⟨44, _⟩ => ⟨S10000, .f32⟩
  | .hbm, ⟨45, _⟩ => ⟨S10000x1, .f32⟩
  | .hbm, ⟨46, _⟩ => ⟨S10000x128, .f32⟩
  | .hbm, ⟨47, _⟩ => ⟨S10000x128, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S10000x128, .f32⟩
  | .hbm, ⟨55, _⟩ => ⟨S10000x128, .f32⟩
  | .hbm, ⟨56, _⟩ => ⟨S_, .f32⟩
  | .hbm, ⟨57, _⟩ => ⟨S_, .f32⟩
  | .hbm, ⟨58, _⟩ => ⟨S10000x128, .f32⟩
  | .hbm, ⟨59, _⟩ => ⟨S10000x128, .f32⟩
  | .hbm, ⟨60, _⟩ => ⟨S10000x128, .f32⟩
  | .hbm, ⟨61, _⟩ => ⟨S128x128, .f32⟩
  | .hbm, ⟨62, _⟩ => ⟨S10000x128, .f32⟩
  | .hbm, ⟨63, _⟩ => ⟨S1x128, .f32⟩
  | .hbm, ⟨64, _⟩ => ⟨S10000x128, .f32⟩
  | .hbm, ⟨65, _⟩ => ⟨S10000x128, .f32⟩
  | .hbm, ⟨66, _⟩ => ⟨S_, .f32⟩
  | .hbm, ⟨67, _⟩ => ⟨S10000x128, .f32⟩
  | .hbm, ⟨68, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v4 : Ref sig .tc := ⟨.hbm, 31, rfl⟩
abbrev main_cst : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_cst_0 : Ref sig .tc := ⟨.hbm, 36, rfl⟩
abbrev main_v8 : Ref sig .tc := ⟨.hbm, 37, rfl⟩
abbrev main_cst_1 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_cst_2 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_cst_3 : Ref sig .tc := ⟨.hbm, 50, rfl⟩
abbrev main_v19 : Ref sig .tc := ⟨.hbm, 51, rfl⟩
abbrev main_cst_4 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_cst_5 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_call1_cst : Ref sig .tc := ⟨.hbm, 66, rfl⟩
abbrev main_call1_v0 : Ref sig .tc := ⟨.hbm, 67, rfl⟩
abbrev main_v32 : Ref sig .tc := ⟨.hbm, 68, rfl⟩

abbrev nD : Nat := 1
abbrev τ : Topo := Topo.v7x

variable {F : FTy → Type} [FloatOps F]
-- ==== Proof.Block.lean ====
/-
  One block of the kernel. The kernel walks the 10000 rows of the features in ten blocks of 1000 rows. For a block
  it multiplies the rows by the transposed weights, adds the bias row and clamps at zero: `dense` below. The rows come
  through one of four slots of an input ring and the result leaves through one of four slots of an output ring; both
  passages leave the 1000 × 128 values as they are (`slot_in`, `slot_out`).
-/
module

public import proofs.«01_k».proof.Proof.Gen.KernelIdeal.Skeleton
public import Idealize.ShloMosaic.Lib.Pipeline.Value
public import Idealize.ShloMosaic.Lib.Writes
public import Idealize.ShloMosaic.Lib.ValueIdxCore
public import Idealize.ShloMosaic.Lib.Tactic

@[expose] public section

set_option maxRecDepth 16384

noncomputable section

namespace Cert.KernelIdeal.Rows

open Cert.KernelIdeal Cert.KernelIdeal.Gen
open Idealize.ShloMosaic Idealize.ShloMosaic.TcCoe Idealize.ShloMosaic.ValueIdx

variable {F : FTy → Type} [FloatOps F]

/-! ## What a block computes -/

/-- A block's values from its 1000 rows `x`: `max (x · w + b, 0)`, the weights `w` already transposed. -/
def dense (w : FVec F S128x128 .f32) (b : FVec F S1x128 .f32) (x : FVec F S1000x128 .f32) : FVec F S1000x128 .f32 :=
  maximumf
    (addf (matmul dot_S1000x128_S128x128_S1000x128_1_0_0_1_n_n none x w (constant S1000x128 .f32 0x00000000#32))
      (broadcastTo S1000x128 b broadcasts_S1x128_S1000x128))
    (broadcast S1000x128 (Scalar.ofBits .f32 0x00000000#32))

/-- The rows of a loaded slot: its leading axis of extent one dropped. -/
abbrev drop1 (x : FVec F S1x1000x128 .f32) : FVec F S1000x128 .f32 := shapeCast S1000x128 x shapeCasts_S1x1000x128_S1000x128
/-- The values stored to a slot: a leading axis of extent one added. -/
abbrev add1 (x : FVec F S1000x128 .f32) : FVec F S1x1000x128 .f32 := shapeCast S1x1000x128 x shapeCasts_S1000x128_S1x1000x128

/-- Every block stores the same function of the weights, the bias and its rows. -/
theorem pay3_eq (w : FVec F S128x128 .f32) (b : FVec F S1x128 .f32) (x : FVec F S1x1000x128 .f32) : k0_pay3 w b x = add1 (dense w b (drop1 x)) := rfl
theorem pay4_eq (w : FVec F S128x128 .f32) (b : FVec F S1x128 .f32) (x : FVec F S1x1000x128 .f32) : k0_pay4 w b x = add1 (dense w b (drop1 x)) := rfl
theorem pay5_eq (w : FVec F S128x128 .f32) (b : FVec F S1x128 .f32) (x : FVec F S1x1000x128 .f32) : k0_pay5 w b x = add1 (dense w b (drop1 x)) := rfl
theorem pay67_eq (w : FVec F S128x128 .f32) (b : FVec F S1x128 .f32) (x : FVec F S1x1000x128 .f32) : k0_pay7 b (k0_pay6 w x) = add1 (dense w b (drop1 x)) := rfl
theorem pay8_eq (w : FVec F S128x128 .f32) (b : FVec F S1x128 .f32) (x : FVec F S1x1000x128 .f32) : k0_pay8 w b x = add1 (dense w b (drop1 x)) := rfl
theorem pay9_eq (w : FVec F S128x128 .f32) (b : FVec F S1x128 .f32) (x : FVec F S1x1000x128 .f32) : k0_pay9 w b x = add1 (dense w b (drop1 x)) := rfl
theorem pay10_eq (w : FVec F S128x128 .f32) (b : FVec F S1x128 .f32) (x : FVec F S1x1000x128 .f32) : k0_pay10 w b x = add1 (dense w b (drop1 x)) := rfl
theorem pay11_eq (w : FVec F S128x128 .f32) (b : FVec F S1x128 .f32) (x : FVec F S1x1000x128 .f32) : k0_pay11 w b x = add1 (dense w b (drop1 x)) := rfl
theorem pay12_eq (w : FVec F S128x128 .f32) (b : FVec F S1x128 .f32) (x : FVec F S1x1000x128 .f32) : k0_pay12 w b x = add1 (dense w b (drop1 x)) := rfl
theorem pay13_eq (w : FVec F S128x128 .f32) (b : FVec F S1x128 .f32) (x : FVec F S1x1000x128 .f32) : k0_pay13 w b x = add1 (dense w b (drop1 x)) := rfl

/-- The weights and the bias are loaded whole; the casts to their own shape change nothing. -/
theorem pay1_eq (w : FVec F S128x128 .f32) : k0_pay1 w = w := shapeCast_self w _
theorem pay2_eq (b : FVec F S1x128 .f32) : k0_pay2 b = b := shapeCast_self b _

/-! ## The four arrays the kernel moves rows between -/

abbrev xM : Memref sig .tc .hbm S10000x128 .f32 := Memref.whole main_arg0
abbrev oM : Memref sig .tc .hbm S10000x128 .f32 := Memref.whole main_v2
abbrev inRing : Memref sig .tc .vmem S4x1000x128 .f32 := Memref.whole cc0_scratch0
abbrev outRing : Memref sig .tc .vmem S4x1000x128 .f32 := Memref.whole cc0_scratch1

/-- Slot `s` of a ring, and block `k` of the rows of the features or of the result. -/
theorem slot_inb (s : Fin 4) : ∀ a, (![(s : ℕ), 0, 0] : Fin 3 → ℕ) a + S1x1000x128.size a ≤ S4x1000x128.size a := by
  intro a; fin_cases s <;> fin_cases a <;> decide
theorem block_inb (k : Fin 10) : ∀ a, (![1000 * (k : ℕ), 0] : Fin 2 → ℕ) a + S1000x128.size a ≤ S10000x128.size a := by
  intro a; fin_cases k <;> fin_cases a <;> decide
abbrev slot (s : Fin 4) : Rect S4x1000x128 := Rect.unit (s := S4x1000x128) ![(s : ℕ), 0, 0] S1x1000x128.size (slot_inb s)
abbrev block (k : Fin 10) : Rect S10000x128 := Rect.unit (s := S10000x128) ![1000 * (k : ℕ), 0] S1000x128.size (block_inb k)

/-- The 1000 rows of block `k`. -/
abbrev rows (x : S10000x128.Idx → Elt F .f32) (k : Fin 10) : FVec F S1000x128 .f32 := fun j => x ((block k).emb j)

/-! ## Through a slot and out again -/

/-- Rows copied into a slot of a ring are the rows a load of that slot reads. -/
theorem slot_in {M : Memref sig .tc .vmem S4x1000x128 .f32} (s : Fin 4) (f : M.view.ty.Contents (Elt F)) (p : FVec F S1000x128 .f32) :
    drop1 (M.view.readAt (Elt F) (slot s).toLoadRect
      (((M.slice (slot s) (fun _ => rfl)).squeeze S1000x128 squeezes_S1x1000x128_S1000x128).view.write (Elt F) f p Finset.univ)) = p :=
  View.read_write_univ (v := ((M.slice (slot s) (fun _ => rfl)).squeeze S1000x128 squeezes_S1x1000x128_S1000x128).view) f p

/-- Values stored to a slot of a ring are the values a copy out of that slot reads. -/
theorem slot_out {M : Memref sig .tc .vmem S4x1000x128 .f32} (s : Fin 4) (f : M.view.ty.Contents (Elt F)) (y : FVec F S1000x128 .f32)
    (L : List (View.Piece (Elt F) S4x1000x128 .f32)) :
    ((M.slice (slot s) (fun _ => rfl)).squeeze S1000x128 squeezes_S1x1000x128_S1000x128).view.read (Elt F)
      (M.view.writes (Elt F) f (⟨slot s, add1 y⟩ :: L)) = y := by
  rw [Memref.read_squeeze_slice M (slot s) (fun _ => rfl) squeezes_S1x1000x128_S1000x128 shapeCasts_S1x1000x128_S1000x128]
  have h : M.view.readAt (Elt F) (slot s).toLoadRect (M.view.writes (Elt F) f (⟨slot s, add1 y⟩ :: L)) = add1 y :=
    funext fun x => View.read_writes_cons_emb (v := M.view) (f := f) (slot s) (add1 y) L x
  rw [h]
  exact shapeCast_shapeCast y _ _

/-! ## The whole result -/

/-- The block a row of the result lies in, and the row's place there. -/
abbrev blockOf (i : S10000x128.Idx) : Fin 10 := ⟨(i 0 : ℕ) / 1000, by have := idx2_lt0 i; omega⟩
abbrev within (i : S10000x128.Idx) : S1000x128.Idx := ix2 (⟨(i 0 : ℕ) % 1000, Nat.mod_lt _ (by decide)⟩ : Fin 1000) (i 1)

/-- The array the kernel leaves: each row computed in its block. -/
def result (x : S10000x128.Idx → Elt F .f32) (w : FVec F S128x128 .f32) (b : FVec F S1x128 .f32) : S10000x128.Idx → Elt F .f32 :=
  fun i => dense w b (rows x (blockOf i)) (within i)

theorem block_emb_0 (k : Fin 10) (j : S1000x128.Idx) : ((block k).emb j 0 : ℕ) = 1000 * k + j 0 := by
  rw [Rect.emb_apply]; show 1000 * (k : ℕ) + 1 * (j 0 : ℕ) = _; omega
theorem block_emb_1 (k : Fin 10) (j : S1000x128.Idx) : ((block k).emb j 1 : ℕ) = j 1 := by
  rw [Rect.emb_apply]; show 0 + 1 * (j 1 : ℕ) = _; omega

/-- Inside block `k` the result is that block's values. -/
theorem result_block (x : S10000x128.Idx → Elt F .f32) (w : FVec F S128x128 .f32) (b : FVec F S1x128 .f32) (k : Fin 10) (j : S1000x128.Idx) :
    result x w b ((block k).emb j) = dense w b (rows x k) j := by
  have h0 := block_emb_0 k j
  have h1 := block_emb_1 k j
  have hj := idx2_lt0 j
  have hb : blockOf ((block k).emb j) = k := Fin.ext (by show ((block k).emb j 0 : ℕ) / 1000 = k; omega)
  have hw : within ((block k).emb j) = j := by
    funext a
    match a with
    | ⟨0, _⟩ => exact Fin.ext (by show ((block k).emb j 0 : ℕ) % 1000 = j 0; omega)
    | ⟨1, _⟩ => exact Fin.ext h1
  unfold result
  rw [hb, hw]

/-- Block `k` of the result written with values `p`, when `p` is what that block computes, holds the result there. -/
theorem written_block (f : oM.view.ty.Contents (Elt F)) (x : S10000x128.Idx → Elt F .f32) (w : FVec F S128x128 .f32) (b : FVec F S1x128 .f32)
    (k : Fin 10) (p : FVec F S1000x128 .f32) (hp : p = dense w b (rows x k)) :
    ∀ i ∈ (block k).set, oM.view.writes (Elt F) f [⟨block k, p⟩] i = result x w b i := by
  intro i hi
  obtain ⟨j, hj⟩ := (block k).exists_idx_of_mem hi
  have hr := View.read_writes_cons_emb (v := oM.view) (f := f) (block k) p [] j
  have hr : oM.view.writes (Elt F) f [⟨block k, p⟩] ((block k).emb j) = p j :=
    (congrFun (View.read_whole main_v2 (oM.view.writes (Elt F) f [⟨block k, p⟩])) ((block k).emb j)).symm.trans hr
  have hj' : (block k).emb j = i := hj
  rw [← hj', result_block, ← hp]
  exact hr

end Cert.KernelIdeal.Rows

end
-- ==== Proof.Held.lean ====
/-
  The kernel's copies touch one slot of a ring and one block of rows at a time, so the rings and the result are held
  piece by piece while it runs: a ring as its four slots, the result as its ten blocks of rows. The pieces are disjoint and cover
  the array, so an array held whole is its pieces held side by side, and pieces held at one array's contents are that array.
-/
module

public import proofs.«01_k».proof.Proof.Block
public import Idealize.ShloMosaic.Lib.Ring

@[expose] public section

set_option maxRecDepth 16384

noncomputable section

namespace Cert.KernelIdeal.Rows

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The pieces are disjoint and cover -/

theorem slot_disjoint (s s' : Fin 4) (h : s ≠ s') : Disjoint (slot s).set (slot s').set := by
  refine Finset.disjoint_left.mpr fun i hi hi' => h (Fin.ext ?_)
  have h0 : (s : ℕ) ≤ i 0 ∧ (i 0 : ℕ) < s + 1 := Rect.mem_set_unit.mp hi 0
  have h1 : (s' : ℕ) ≤ i 0 ∧ (i 0 : ℕ) < s' + 1 := Rect.mem_set_unit.mp hi' 0
  omega

theorem slot_cover : Finset.univ.biUnion (fun s : Fin 4 => (slot s).set) = Finset.univ := by
  refine Finset.eq_univ_iff_forall.mpr fun i => Finset.mem_biUnion.mpr ⟨i 0, Finset.mem_univ _, Rect.mem_set_unit.mpr fun a => ?_⟩
  match a with
  | ⟨0, _⟩ => exact ⟨le_rfl, Nat.lt_succ_self _⟩
  | ⟨1, _⟩ => exact ⟨Nat.zero_le _, (Nat.zero_add 1000).symm ▸ (i 1).isLt⟩
  | ⟨2, _⟩ => exact ⟨Nat.zero_le _, (Nat.zero_add 128).symm ▸ (i 2).isLt⟩

theorem block_disjoint (k k' : Fin 10) (h : k ≠ k') : Disjoint (block k).set (block k').set := by
  refine Finset.disjoint_left.mpr fun i hi hi' => h (Fin.ext ?_)
  have h0 : 1000 * (k : ℕ) ≤ i 0 ∧ (i 0 : ℕ) < 1000 * k + 1000 := Rect.mem_set_unit.mp hi 0
  have h1 : 1000 * (k' : ℕ) ≤ i 0 ∧ (i 0 : ℕ) < 1000 * k' + 1000 := Rect.mem_set_unit.mp hi' 0
  omega

theorem block_cover : Finset.univ.biUnion (fun k : Fin 10 => (block k).set) = Finset.univ := by
  refine Finset.eq_univ_iff_forall.mpr fun i => Finset.mem_biUnion.mpr ⟨blockOf i, Finset.mem_univ _, Rect.mem_set_unit.mpr fun a => ?_⟩
  match a with
  | ⟨0, _⟩ =>
    have := idx2_lt0 i
    show 1000 * ((i 0 : ℕ) / 1000) ≤ i 0 ∧ (i 0 : ℕ) < 1000 * ((i 0 : ℕ) / 1000) + 1000
    omega
  | ⟨1, _⟩ => exact ⟨Nat.zero_le _, (Nat.zero_add 128).symm ▸ (i 1).isLt⟩

/-! ## Held piece by piece -/

/-- Slot `s` of a ring, held at a ring's contents; block `k` of the result, held at an array's contents. -/
abbrev slotAt (c : Dev nD) (M : Memref sig .tc .vmem S4x1000x128 .f32) (s : Fin 4) (f : Buf (Elt F) (M.view.loc (c : Thread nD τ))) : sProp 𝕄 :=
  M.view.loc (c : Thread nD τ) ↦[M.view.setOn (slot s).set]{fullShare} f
abbrev blockAt (c : Dev nD) (k : Fin 10) (f : Buf (Elt F) (oM.view.loc (c : Thread nD τ))) : sProp 𝕄 :=
  oM.view.loc (c : Thread nD τ) ↦[oM.view.setOn (block k).set]{fullShare} f

theorem setOn_whole (b : Ref sig .tc) (S : Finset b.ty.shape.Idx) : (View.whole b).setOn S = S := by
  ext i
  constructor
  · intro h; obtain ⟨y, hy, rfl⟩ := Finset.mem_map.mp h; exact hy
  · intro h; exact Finset.mem_map.mpr ⟨i, h, rfl⟩

theorem inRing_cut (c : Dev nD) (f : Buf (Elt F) (inRing.view.loc (c : Thread nD τ))) :
    (inRing.view.loc (c : Thread nD τ) ↦{fullShare} f : sProp 𝕄) = bigSep Finset.univ fun s : Fin 4 => slotAt c inRing s f :=
  Ring.pointsTo_blocks (ℓ := inRing.view.loc (c : Thread nD τ)) (fun s : Fin 4 => inRing.view.setOn (slot s).set)
    (fun s s' h => by rw [setOn_whole, setOn_whole]; exact slot_disjoint s s' h)
    (by simp only [setOn_whole]; exact slot_cover) f

theorem outRing_cut (c : Dev nD) (f : Buf (Elt F) (outRing.view.loc (c : Thread nD τ))) :
    (outRing.view.loc (c : Thread nD τ) ↦{fullShare} f : sProp 𝕄) = bigSep Finset.univ fun s : Fin 4 => slotAt c outRing s f :=
  Ring.pointsTo_blocks (ℓ := outRing.view.loc (c : Thread nD τ)) (fun s : Fin 4 => outRing.view.setOn (slot s).set)
    (fun s s' h => by rw [setOn_whole, setOn_whole]; exact slot_disjoint s s' h)
    (by simp only [setOn_whole]; exact slot_cover) f

theorem result_cut (c : Dev nD) (f : Buf (Elt F) (oM.view.loc (c : Thread nD τ))) :
    (oM.view.loc (c : Thread nD τ) ↦{fullShare} f : sProp 𝕄) = bigSep Finset.univ fun k : Fin 10 => blockAt c k f :=
  Ring.pointsTo_blocks (ℓ := oM.view.loc (c : Thread nD τ)) (fun k : Fin 10 => oM.view.setOn (block k).set)
    (fun k k' h => by rw [setOn_whole, setOn_whole]; exact block_disjoint k k' h)
    (by simp only [setOn_whole]; exact block_cover) f

/-! ## The slots, held at contents of their own, joined again -/

theorem inRing_join (c : Dev nD) (f : Buf (Elt F) (inRing.view.loc (c : Thread nD τ))) :
    bigSep Finset.univ (fun s : Fin 4 => (iprop(∃ g : Buf (Elt F) (inRing.view.loc (c : Thread nD τ)), slotAt c inRing s g) : sProp 𝕄))
      ⊢ iprop(∃ g, inRing.view.loc (c : Thread nD τ) ↦{fullShare} g) :=
  Ring.pointsTo_blocks_join_exists (ℓ := inRing.view.loc (c : Thread nD τ)) (fun s : Fin 4 => inRing.view.setOn (slot s).set)
    (fun s s' h => by rw [setOn_whole, setOn_whole]; exact slot_disjoint s s' h)
    (by simp only [setOn_whole]; exact slot_cover) f

theorem outRing_join (c : Dev nD) (f : Buf (Elt F) (outRing.view.loc (c : Thread nD τ))) :
    bigSep Finset.univ (fun s : Fin 4 => (iprop(∃ g : Buf (Elt F) (outRing.view.loc (c : Thread nD τ)), slotAt c outRing s g) : sProp 𝕄))
      ⊢ iprop(∃ g, outRing.view.loc (c : Thread nD τ) ↦{fullShare} g) :=
  Ring.pointsTo_blocks_join_exists (ℓ := outRing.view.loc (c : Thread nD τ)) (fun s : Fin 4 => outRing.view.setOn (slot s).set)
    (fun s s' h => by rw [setOn_whole, setOn_whole]; exact slot_disjoint s s' h)
    (by simp only [setOn_whole]; exact slot_cover) f

/-- Four pieces, and ten, listed. -/
theorem four (Φ : Fin 4 → sProp 𝕄) : bigSep Finset.univ Φ = iprop(Φ 0 ∗ Φ 1 ∗ Φ 2 ∗ Φ 3) :=
  BI.bigSep_univ_eq_bigSepL [0, 1, 2, 3] (by decide) (by decide) Φ
theorem ten (Φ : Fin 10 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9) :=
  BI.bigSep_univ_eq_bigSepL [0, 1, 2, 3, 4, 5, 6, 7, 8, 9] (by decide) (by decide) Φ

end Cert.KernelIdeal.Rows

end
-- ==== Proof.Run.lean ====
/-
  The kernel's run. Ten blocks of rows pass through the two rings: the copies into a slot, the waits, the load, the block's
  arithmetic, the store and the copy out are executed in program order. Afterwards every block of the result holds what that
  block computes (`Rows.dense`), the features, weights and bias are as they were, and every semaphore is back at zero.
-/
module

public import proofs.«01_k».proof.Proof.Held
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameValue

@[expose] public section

set_option maxRecDepth 16384

noncomputable section

namespace Cert.KernelIdeal.Rows

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A slot of a ring held at contents nobody reads any more. -/
abbrev slotLeft (c : Dev nD) (M : Memref sig .tc .vmem S4x1000x128 .f32) (s : Fin 4) : sProp 𝕄 :=
  iprop(∃ f : Buf (Elt F) (M.view.loc (c : Thread nD τ)), slotAt c M s f)

/-- The kernel's eight copy semaphores at zero: one for each slot of the input ring, one for each slot of the output ring. -/
abbrev semsZero (c : Dev nD) : sProp 𝕄 :=
  iprop(semVal ((c : Thread nD τ), SemLoc.dma 2) 0 ∗ semVal ((c : Thread nD τ), SemLoc.dma 3) 0
    ∗ semVal ((c : Thread nD τ), SemLoc.dma 4) 0 ∗ semVal ((c : Thread nD τ), SemLoc.dma 5) 0
    ∗ semVal ((c : Thread nD τ), SemLoc.dma 6) 0 ∗ semVal ((c : Thread nD τ), SemLoc.dma 7) 0
    ∗ semVal ((c : Thread nD τ), SemLoc.dma 8) 0 ∗ semVal ((c : Thread nD τ), SemLoc.dma 9) 0)

/-- From a slot of the input ring to a slot of the output ring: the rows of block `k` go in, the weights and the bias are loaded
    whole, and what leaves is what the block computes. -/
theorem through (arg1 : Memref sig .tc .vmem S128x128 .f32) (arg2 : Memref sig .tc .vmem S1x128 .f32)
    (f1 : arg1.view.ty.Contents (Elt F)) (f2 : arg2.view.ty.Contents (Elt F)) (fx : S10000x128.Idx → Elt F .f32)
    (fa : inRing.view.ty.Contents (Elt F)) (fb : outRing.view.ty.Contents (Elt F)) (s : Fin 4) (k : Fin 10)
    (L : List (View.Piece (Elt F) S4x1000x128 .f32)) :
    ((outRing.slice (slot s) (fun _ => rfl)).squeeze S1000x128 squeezes_S1x1000x128_S1000x128).view.read (Elt F)
      (outRing.view.writes (Elt F) fb (⟨slot s, add1 (dense
        (k0_pay1 (arg1.view.readAt (Elt F) (Rect.unit ![0, 0] S128x128.size inb_S128x128_S128x128_0_0).toLoadRect f1))
        (k0_pay2 (arg2.view.readAt (Elt F) (Rect.unit ![0, 0] S1x128.size inb_S1x128_S1x128_0_0).toLoadRect f2))
        (drop1 (inRing.view.readAt (Elt F) (slot s).toLoadRect
          (((inRing.slice (slot s) (fun _ => rfl)).squeeze S1000x128 squeezes_S1x1000x128_S1000x128).view.write (Elt F) fa (rows fx k) Finset.univ))))⟩ :: L))
      = dense (arg1.view.read (Elt F) f1) (arg2.view.read (Elt F) f2) (rows fx k) := by
  rw [slot_out, slot_in, pay1_eq, pay2_eq]
  have h1 : arg1.view.readAt (Elt F) (Rect.unit ![0, 0] S128x128.size inb_S128x128_S128x128_0_0).toLoadRect f1 = arg1.view.read (Elt F) f1 :=
    View.ld_unit_zero (S := S128x128) (by funext a; fin_cases a <;> rfl) _ (arg1.view.read (Elt F) f1)
  have h2 : arg2.view.readAt (Elt F) (Rect.unit ![0, 0] S1x128.size inb_S1x128_S1x128_0_0).toLoadRect f2 = arg2.view.read (Elt F) f2 :=
    View.ld_unit_zero (S := S1x128) (by funext a; fin_cases a <;> rfl) _ (arg2.view.read (Elt F) f2)
  rw [h1, h2]

/-- Block `k` of the result, copied out, holds the result. -/
theorem block_done (c : Dev nD) (k : Fin 10) (fo : Buf (Elt F) (oM.view.loc (c : Thread nD τ))) (fx : S10000x128.Idx → Elt F .f32)
    (w : FVec F S128x128 .f32) (b : FVec F S1x128 .f32) (p : FVec F S1000x128 .f32) (hp : p = dense w b (rows fx k)) :
    (oM.view.loc (c : Thread nD τ) ↦[oM.view.setOn (block k).set]{fullShare} oM.view.writes (Elt F) fo [⟨block k, p⟩] : sProp 𝕄)
      ⊢ blockAt c k (result fx w b) :=
  .of_eq (pointsTo_congr fun i hi => written_block fo fx w b k p hp i (by rwa [setOn_whole] at hi))

set_option maxHeartbeats 4000000 in
/-- The run, from the arrays held piece by piece. -/
theorem kernelRun (c : Dev nD) (arg1 : Memref sig .tc .vmem S128x128 .f32) (harg1 : arg1.IsWhole)
    (arg2 : Memref sig .tc .vmem S1x128 .f32) (harg2 : arg2.IsWhole)
    (f1 : Buf (Elt F) (arg1.view.loc (c : Thread nD τ))) (f2 : Buf (Elt F) (arg2.view.loc (c : Thread nD τ)))
    (fx : Buf (Elt F) (xM.view.loc (c : Thread nD τ))) (fo : Buf (Elt F) (oM.view.loc (c : Thread nD τ)))
    (fa : Buf (Elt F) (inRing.view.loc (c : Thread nD τ))) (fb : Buf (Elt F) (outRing.view.loc (c : Thread nD τ)))
    (W : Waits sig Unit) (K : PUnit → sProp 𝕄) :
    iprop((arg1.view.loc (c : Thread nD τ) ↦[arg1.view.set]{fullShare} f1)
      ∗ (arg2.view.loc (c : Thread nD τ) ↦[arg2.view.set]{fullShare} f2)
      ∗ (xM.view.loc (c : Thread nD τ) ↦{fullShare} fx)
      ∗ blockAt c 0 fo
      ∗ blockAt c 1 fo
      ∗ blockAt c 2 fo
      ∗ blockAt c 3 fo
      ∗ blockAt c 4 fo
      ∗ blockAt c 5 fo
      ∗ blockAt c 6 fo
      ∗ blockAt c 7 fo
      ∗ blockAt c 8 fo
      ∗ blockAt c 9 fo
      ∗ slotAt c inRing 0 fa ∗ slotAt c inRing 1 fa ∗ slotAt c inRing 2 fa ∗ slotAt c inRing 3 fa
      ∗ slotAt c outRing 0 fb ∗ slotAt c outRing 1 fb ∗ slotAt c outRing 2 fb ∗ slotAt c outRing 3 fb
      ∗ semVal ((c : Thread nD τ), SemLoc.dma 2) 0 ∗ semVal ((c : Thread nD τ), SemLoc.dma 3) 0
      ∗ semVal ((c : Thread nD τ), SemLoc.dma 4) 0 ∗ semVal ((c : Thread nD τ), SemLoc.dma 5) 0
      ∗ semVal ((c : Thread nD τ), SemLoc.dma 6) 0 ∗ semVal ((c : Thread nD τ), SemLoc.dma 7) 0
      ∗ semVal ((c : Thread nD τ), SemLoc.dma 8) 0 ∗ semVal ((c : Thread nD τ), SemLoc.dma 9) 0
      ∗ owes (c : Thread nD τ) 0 W
      ∗ (((arg1.view.loc (c : Thread nD τ) ↦[arg1.view.set]{fullShare} f1)
          ∗ (arg2.view.loc (c : Thread nD τ) ↦[arg2.view.set]{fullShare} f2)
          ∗ (xM.view.loc (c : Thread nD τ) ↦{fullShare} fx)
          ∗ blockAt c 0 (result fx (arg1.view.read (Elt F) f1) (arg2.view.read (Elt F) f2))
          ∗ blockAt c 1 (result fx (arg1.view.read (Elt F) f1) (arg2.view.read (Elt F) f2))
          ∗ blockAt c 2 (result fx (arg1.view.read (Elt F) f1) (arg2.view.read (Elt F) f2))
          ∗ blockAt c 3 (result fx (arg1.view.read (Elt F) f1) (arg2.view.read (Elt F) f2))
          ∗ blockAt c 4 (result fx (arg1.view.read (Elt F) f1) (arg2.view.read (Elt F) f2))
          ∗ blockAt c 5 (result fx (arg1.view.read (Elt F) f1) (arg2.view.read (Elt F) f2))
          ∗ blockAt c 6 (result fx (arg1.view.read (Elt F) f1) (arg2.view.read (Elt F) f2))
          ∗ blockAt c 7 (result fx (arg1.view.read (Elt F) f1) (arg2.view.read (Elt F) f2))
          ∗ blockAt c 8 (result fx (arg1.view.read (Elt F) f1) (arg2.view.read (Elt F) f2))
          ∗ blockAt c 9 (result fx (arg1.view.read (Elt F) f1) (arg2.view.read (Elt F) f2))
          ∗ slotLeft c inRing 0 ∗ slotLeft c inRing 1 ∗ slotLeft c inRing 2 ∗ slotLeft c inRing 3
          ∗ slotLeft c outRing 0 ∗ slotLeft c outRing 1 ∗ slotLeft c outRing 2 ∗ slotLeft c outRing 3
          ∗ semsZero c ∗ (∃ W', owes (c : Thread nD τ) 0 W')) -∗ K ⟨⟩))
    ⊢ wp frame (wpE (defs₀ (F := F)) Variants.none c none) Set.univ
        (cc0__pipelined_kernel xM (Memref.isWhole_whole _) arg1 harg1 arg2 harg2 oM (Memref.isWhole_whole _)
          inRing (Memref.isWhole_whole _) outRing (Memref.isWhole_whole _) cc0_scratch2 cc0_scratch3) K := by
  rw [cc0__pipelined_kernel_eq_skeleton]; unfold cc0__pipelined_kernel_skel
  iintro ⟨H1, H2, Hx, Hr0, Hr1, Hr2, Hr3, Hr4, Hr5, Hr6, Hr7, Hr8, Hr9, Ha0, Ha1, Ha2, Ha3, Hb0, Hb1, Hb2, Hb3, Hi0, Hi1, Hi2, Hi3, Ho0, Ho1, Ho2, Ho3, HW, Hk⟩
  sl_exec
  sl_step
  iapply Hk
  isplitl [H1]; · iexact H1
  isplitl [H2]; · iexact H2
  isplitl [Hx]; · iexact Hx
  isplitl [Hr0]; · iapply (block_done c 0 fo fx _ _ _ (through arg1 arg2 f1 f2 fx _ fb 0 0 _)); iexact Hr0
  isplitl [Hr1]; · iapply (block_done c 1 fo fx _ _ _ (through arg1 arg2 f1 f2 fx _ fb 1 1 _)); iexact Hr1
  isplitl [Hr2]; · iapply (block_done c 2 fo fx _ _ _ (through arg1 arg2 f1 f2 fx _ fb 2 2 _)); iexact Hr2
  isplitl [Hr3]; · iapply (block_done c 3 fo fx _ _ _ (through arg1 arg2 f1 f2 fx _ fb 3 3 _)); iexact Hr3
  isplitl [Hr4]; · iapply (block_done c 4 fo fx _ _ _ (through arg1 arg2 f1 f2 fx _ fb 0 4 _)); iexact Hr4
  isplitl [Hr5]; · iapply (block_done c 5 fo fx _ _ _ (through arg1 arg2 f1 f2 fx _ fb 1 5 _)); iexact Hr5
  isplitl [Hr6]; · iapply (block_done c 6 fo fx _ _ _ (through arg1 arg2 f1 f2 fx _ fb 2 6 _)); iexact Hr6
  isplitl [Hr7]; · iapply (block_done c 7 fo fx _ _ _ (through arg1 arg2 f1 f2 fx _ fb 3 7 _)); iexact Hr7
  isplitl [Hr8]; · iapply (block_done c 8 fo fx _ _ _ (through arg1 arg2 f1 f2 fx _ fb 0 8 _)); iexact Hr8
  isplitl [Hr9]; · iapply (block_done c 9 fo fx _ _ _ (through arg1 arg2 f1 f2 fx _ fb 1 9 _)); iexact Hr9
  isplitl [Ha0]; · iexists _; iexact Ha0
  isplitl [Ha1]; · iexists _; iexact Ha1
  isplitl [Ha2]; · iexists _; iexact Ha2
  isplitl [Ha3]; · iexists _; iexact Ha3
  isplitl [Hb0]; · iexists _; iexact Hb0
  isplitl [Hb1]; · iexists _; iexact Hb1
  isplitl [Hb2]; · iexists _; iexact Hb2
  isplitl [Hb3]; · iexists _; iexact Hb3
  isplitr [HW]
  · isplitl [Hi0]; · iexact Hi0
    isplitl [Hi1]; · iexact Hi1
    isplitl [Hi2]; · iexact Hi2
    isplitl [Hi3]; · iexact Hi3
    isplitl [Ho0]; · iexact Ho0
    isplitl [Ho1]; · iexact Ho1
    isplitl [Ho2]; · iexact Ho2
    iexact Ho3
  iexists _; iexact HW

/-- The run, from the arrays held whole to the arrays held whole: the result is `result` of the features and of the staged weights
    and bias. -/
theorem kernelRun_whole (c : Dev nD) (arg1 : Memref sig .tc .vmem S128x128 .f32) (harg1 : arg1.IsWhole)
    (arg2 : Memref sig .tc .vmem S1x128 .f32) (harg2 : arg2.IsWhole)
    (f1 : Buf (Elt F) (arg1.view.loc (c : Thread nD τ))) (f2 : Buf (Elt F) (arg2.view.loc (c : Thread nD τ)))
    (fx : Buf (Elt F) (xM.view.loc (c : Thread nD τ))) (fo : Buf (Elt F) (oM.view.loc (c : Thread nD τ)))
    (fa : Buf (Elt F) (inRing.view.loc (c : Thread nD τ))) (fb : Buf (Elt F) (outRing.view.loc (c : Thread nD τ)))
    (W : Waits sig Unit) (K : PUnit → sProp 𝕄) :
    iprop((arg1.view.loc (c : Thread nD τ) ↦[arg1.view.set]{fullShare} f1)
      ∗ (arg2.view.loc (c : Thread nD τ) ↦[arg2.view.set]{fullShare} f2)
      ∗ (xM.view.loc (c : Thread nD τ) ↦{fullShare} fx) ∗ (oM.view.loc (c : Thread nD τ) ↦{fullShare} fo)
      ∗ (inRing.view.loc (c : Thread nD τ) ↦{fullShare} fa) ∗ (outRing.view.loc (c : Thread nD τ) ↦{fullShare} fb)
      ∗ semsZero c ∗ owes (c : Thread nD τ) 0 W
      ∗ (((arg1.view.loc (c : Thread nD τ) ↦[arg1.view.set]{fullShare} f1)
          ∗ (arg2.view.loc (c : Thread nD τ) ↦[arg2.view.set]{fullShare} f2)
          ∗ (xM.view.loc (c : Thread nD τ) ↦{fullShare} fx)
          ∗ (oM.view.loc (c : Thread nD τ) ↦{fullShare} (result fx (arg1.view.read (Elt F) f1) (arg2.view.read (Elt F) f2) : Buf (Elt F) (oM.view.loc (c : Thread nD τ))))
          ∗ (∃ f, inRing.view.loc (c : Thread nD τ) ↦{fullShare} f) ∗ (∃ f, outRing.view.loc (c : Thread nD τ) ↦{fullShare} f)
          ∗ semsZero c ∗ (∃ W', owes (c : Thread nD τ) 0 W')) -∗ K ⟨⟩))
    ⊢ wp frame (wpE (defs₀ (F := F)) Variants.none c none) Set.univ
        (cc0__pipelined_kernel xM (Memref.isWhole_whole _) arg1 harg1 arg2 harg2 oM (Memref.isWhole_whole _)
          inRing (Memref.isWhole_whole _) outRing (Memref.isWhole_whole _) cc0_scratch2 cc0_scratch3) K := by
  rw [inRing_cut c fa, outRing_cut c fb, result_cut c fo, result_cut c (result fx (arg1.view.read (Elt F) f1) (arg2.view.read (Elt F) f2)),
    four, four, ten, ten]
  iintro ⟨H1, H2, Hx, ⟨Hr0, Hr1, Hr2, Hr3, Hr4, Hr5, Hr6, Hr7, Hr8, Hr9⟩, ⟨Ha0, Ha1, Ha2, Ha3⟩, ⟨Hb0, Hb1, Hb2, Hb3⟩, ⟨Hi0, Hi1, Hi2, Hi3, Ho0, Ho1, Ho2, Ho3⟩, HW, Hk⟩
  iapply (kernelRun c arg1 harg1 arg2 harg2 f1 f2 fx fo fa fb W K)
  isplitl [H1]; · iexact H1
  isplitl [H2]; · iexact H2
  isplitl [Hx]; · iexact Hx
  isplitl [Hr0]; · iexact Hr0
  isplitl [Hr1]; · iexact Hr1
  isplitl [Hr2]; · iexact Hr2
  isplitl [Hr3]; · iexact Hr3
  isplitl [Hr4]; · iexact Hr4
  isplitl [Hr5]; · iexact Hr5
  isplitl [Hr6]; · iexact Hr6
  isplitl [Hr7]; · iexact Hr7
  isplitl [Hr8]; · iexact Hr8
  isplitl [Hr9]; · iexact Hr9
  isplitl [Ha0]; · iexact Ha0
  isplitl [Ha1]; · iexact Ha1
  isplitl [Ha2]; · iexact Ha2
  isplitl [Ha3]; · iexact Ha3
  isplitl [Hb0]; · iexact Hb0
  isplitl [Hb1]; · iexact Hb1
  isplitl [Hb2]; · iexact Hb2
  isplitl [Hb3]; · iexact Hb3
  isplitl [Hi0]; · iexact Hi0
  isplitl [Hi1]; · iexact Hi1
  isplitl [Hi2]; · iexact Hi2
  isplitl [Hi3]; · iexact Hi3
  isplitl [Ho0]; · iexact Ho0
  isplitl [Ho1]; · iexact Ho1
  isplitl [Ho2]; · iexact Ho2
  isplitl [Ho3]; · iexact Ho3
  isplitl [HW]; · iexact HW
  iintro ⟨H1, H2, Hx, Hr0, Hr1, Hr2, Hr3, Hr4, Hr5, Hr6, Hr7, Hr8, Hr9, Ha0, Ha1, Ha2, Ha3, Hb0, Hb1, Hb2, Hb3, Hs, HW⟩
  iapply Hk
  isplitl [H1]; · iexact H1
  isplitl [H2]; · iexact H2
  isplitl [Hx]; · iexact Hx
  isplitl [Hr0 Hr1 Hr2 Hr3 Hr4 Hr5 Hr6 Hr7 Hr8 Hr9]
  · isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    isplitl [Hr8]; · iexact Hr8
    iexact Hr9
  isplitl [Ha0 Ha1 Ha2 Ha3]
  · iapply (inRing_join c fa); rw [four]
    isplitl [Ha0]; · iexact Ha0
    isplitl [Ha1]; · iexact Ha1
    isplitl [Ha2]; · iexact Ha2
    iexact Ha3
  isplitl [Hb0 Hb1 Hb2 Hb3]
  · iapply (outRing_join c fb); rw [four]
    isplitl [Hb0]; · iexact Hb0
    isplitl [Hb1]; · iexact Hb1
    isplitl [Hb2]; · iexact Hb2
    iexact Hb3
  isplitl [Hs]; · iexact Hs
  iexact HW

end Cert.KernelIdeal.Rows

end
-- ==== Proof.Frame.lean ====
/-
  The program around the kernel: `@main` transposes the weights and reshapes the bias, then starts the kernel, which
  stages both and is handed the features and the result as whole arrays. From the kernel's run: the program terminates without fault,
  its arguments end as they were, every semaphore ends at zero, and the result holds `outcome`.
-/
module

public import proofs.«01_k».proof.Proof.Run
public import proofs.«01_k».proof.Proof.Gen.KernelIdeal.Frame

@[expose] public section

set_option maxRecDepth 16384

noncomputable section

namespace Cert.KernelIdeal.Rows

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the run leaves -/

/-- The weights and the bias the kernel is handed in its staging buffers. -/
def staged_w (c : Dev nD) : FVec F S128x128 .f32 := iblk m c 0 t0_0
def staged_b (c : Dev nD) : FVec F S1x128 .f32 := iblk m c 1 t0_0

/-- The result array after the run. -/
def outcome (c : Dev nD) : S10000x128.Idx → Elt F .f32 := result (V m c main_arg0) (staged_w m c) (staged_b m c)

/-- Every array after the run: the result at `outcome`, the others as the kernel found them. -/
def G (c : Dev nD) : (b : Ref sig .tc) → Buf (Elt F) ((c : Thread nD τ).loc b) := Function.update (V m c) main_v2 (outcome m c)

theorem G_result (c : Dev nD) : G m c main_v2 = outcome m c := Function.update_self ..

/-! ## The launch -/

/-- The array the kernel writes by its own copies, the array it reads by its own copies, its eight semaphores. -/
def R0 : Finset (Ref sig .tc) := {main_v2}
def H0 : Finset (Ref sig .tc) := {main_arg0}
abbrev osem0 : Fin 8 → SemLoc sig := fun j =>
  (![SemLoc.dma 2, SemLoc.dma 3, SemLoc.dma 4, SemLoc.dma 5, SemLoc.dma 6, SemLoc.dma 7, SemLoc.dma 8, SemLoc.dma 9] : Fin 8 → SemLoc sig) j
theorem ownSemFacts0 : Pipeline.OwnSemFacts spec0 osem0 := by decide
theorem H0_sub : H0 ⊆ Pipeline.restRefs sig spec0 := by decide
theorem R0_sub : R0 ⊆ Pipeline.restRefs sig spec0 \ H0 := by decide

theorem ownSems00_eq (c : Dev nD) :
    (Pipeline.ownSems0 (Ix := Unit) (Name := ℕ) (U := Pipeline.UD sig nD τ) (Lvl := ℕ) (Val := Elt F) (τ := τ) osem0 c : sProp 𝕄) = semsZero c := by
  rw [Pipeline.ownSems0_eq_of_list c osem0 [0, 1, 2, 3, 4, 5, 6, 7] (by decide) (by decide)]; rfl

theorem read_eq (c : Dev nD) :
    (bigSep H0 (fun b => ((c : Thread nD τ).loc b) ↦{fullShare} V m c b) : sProp 𝕄) = iprop(xM.view.loc (c : Thread nD τ) ↦{fullShare} V m c main_arg0) := by
  rw [BI.bigSep_eq_bigSepL_of_eq [main_arg0] (by decide) (by decide)]; rfl

theorem written_eq (c : Dev nD) (X : (b : Ref sig .tc) → Buf (Elt F) ((c : Thread nD τ).loc b)) :
    (Pipeline.routed R0 c X : sProp 𝕄) = iprop(oM.view.loc (c : Thread nD τ) ↦{fullShare} X main_v2) := by
  unfold Pipeline.routed; rw [BI.bigSep_eq_bigSepL_of_eq [main_v2] (by decide) (by decide)]; rfl

/-- What the kernel holds besides its staged operands, with the arrays it writes at `X`. -/
theorem held_eq (X : (c : Dev nD) → (b : Ref sig .tc) → Buf (Elt F) ((c : Thread nD τ).loc b)) (c : Dev nD) :
    (Pipeline.ΦDRG osem0 spec0 H0 R0 (V m) X c : sProp 𝕄)
      = iprop(((∃ f, inRing.view.loc (c : Thread nD τ) ↦{fullShare} f) ∗ (∃ f, outRing.view.loc (c : Thread nD τ) ↦{fullShare} f))
          ∗ (∃ r, prngReg c r) ∗ semsZero c
          ∗ (xM.view.loc (c : Thread nD τ) ↦{fullShare} V m c main_arg0)
          ∗ (oM.view.loc (c : Thread nD τ) ↦{fullShare} X c main_v2)) := by
  rw [Pipeline.ΦDRG_eq, scopedRest0_eq, ownSems00_eq, read_eq, written_eq]

theorem entry (𝒱₀ : Variants) : Pipeline.HMain (Ix := Unit) (Name := ℕ) (U := Pipeline.UD sig nD τ) (Lvl := ℕ) cfgs 0 defs₀ 𝒱₀ m (main (F := F)) (V m) := by
  set_option maxHeartbeats 800000 in
  exact Pipeline.hmain_prefix cfgs 0 defs₀ 𝒱₀ m main hostOps0 hostOps0_sub hostOps0_fresh main_chain

/-- The staged operands stay as staged; the result goes from its contents at the start to `outcome`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
  Φ t := Pipeline.ΦDRG osem0 spec0 H0 R0 (V m) (if (t : ℕ) = 0 then V m else G m) c
  q _ := fullShare
  owed _ := 0

theorem A_eq (c : Dev nD) (w : Fin cfg0.W) : (dats m 0 c).A w = V m c (Pipeline.arrRef spec0 w) := by
  dsimp only [dats]

theorem before_w (c : Dev nD) (t : Fin cfg0.N) (d) : (dats m 0 c).before 0 t d = iblk m c 0 t :=
  ((dats m 0 c).before_in_eq_fetched 0 rfl (fun _ => rfl) (fun _ _ _ => rfl) (fun t => rfl) t d).trans rfl
theorem before_b (c : Dev nD) (t : Fin cfg0.N) (d) : (dats m 0 c).before 1 t d = iblk m c 1 t :=
  ((dats m 0 c).before_in_eq_fetched 1 rfl (fun _ => rfl) (fun _ _ _ => rfl) (fun t => rfl) t d).trans rfl

/-! ## The kernel's step -/

abbrev wBuf (t : Fin cfg0.N) : Memref sig .tc .vmem S128x128 .f32 := win0_0.stage (cfg0.slots t 0)
abbrev bBuf (t : Fin cfg0.N) : Memref sig .tc .vmem S1x128 .f32 := win0_1.stage (cfg0.slots t 1)

def bodyPre (c : Dev nD) (t : Fin cfg0.N) : sProp 𝕄 :=
  iprop((dats m 0 c).Φ t.castSucc ∗ (dats m 0 c).owesAt () t.castSucc
    ∗ (∃ d, owns (c : Thread nD τ) (wBuf t) fullShare ((dats m 0 c).before 0 t d))
    ∗ (∃ d, owns (c : Thread nD τ) (bBuf t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (wBuf t) fullShare ((dats m 0 c).after 0 t)
    ∗ owns (c : Thread nD τ) (bBuf t) fullShare ((dats m 0 c).after 1 t))

theorem sound_body (c : Dev nD) (t : Fin cfg0.N) :
    bodyPre m c t ⊢ wp frame (wpE (defs₀ (F := F)) Variants.none c none) Set.univ (bodyAt0 t) (fun _ => bodyPost m c t) := by
  obtain rfl := fin_N0 t
  unfold bodyPre bodyPost bodyAt0
  rw [show (dats m 0 c).Φ (Fin.castSucc t0_0) = Pipeline.ΦDRG osem0 spec0 H0 R0 (V m) (V m) c from rfl,
    show (dats m 0 c).Φ (Fin.succ t0_0) = Pipeline.ΦDRG osem0 spec0 H0 R0 (V m) (G m) c from rfl, held_eq, held_eq, G_result,
    show (dats m 0 c).after 0 t0_0 = staged_w m c from rfl, show (dats m 0 c).after 1 t0_0 = staged_b m c from rfl]
  simp only [before_w, before_b]
  unfold Dat.owesAt Pipeline.owesWithin
  rw [show (dats m 0 c).owed (Fin.castSucc t0_0) = 0 from rfl, show (dats m 0 c).owed (Fin.succ t0_0) = 0 from rfl]
  unfold owns
  iintro ⟨⟨⟨⟨%fa, Ha⟩, ⟨%fb, Hb⟩⟩, Hg, Hs, Hx, Ho⟩, ⟨%W, -, HW⟩, ⟨%d1, %f1, %h1, H1⟩, ⟨%d2, %f2, %h2, H2⟩⟩
  iapply (kernelRun_whole c _ _ _ _ f1 f2 (V m c main_arg0) (V m c main_v2) fa fb W _)
  isplitl [H1]; · iexact H1
  isplitl [H2]; · iexact H2
  isplitl [Hx]; · iexact Hx
  isplitl [Ho]; · iexact Ho
  isplitl [Ha]; · iexact Ha
  isplitl [Hb]; · iexact Hb
  isplitl [Hs]; · iexact Hs
  isplitl [HW]; · iexact HW
  iintro ⟨H1, H2, Hx, Ho, Ha, Hb, Hs, ⟨%W', HW⟩⟩
  rw [h1, h2]
  isplitl [Ha Hb Hg Hs Hx Ho]
  · isplitl [Ha Hb]
    · isplitl [Ha]; · iexact Ha
      iexact Hb
    isplitl [Hg]; · iexact Hg
    isplitl [Hs]; · iexact Hs
    isplitl [Hx]; · iexact Hx
    iexact Ho
  isplitl [HW]
  · iexists W'; isplitr; · ipureintro; exact fun _ _ => Or.inl trivial
    iexact HW
  isplitl [H1]
  · iexists f1; isplitr; · ipureintro; exact h1
    iexact H1
  iexists f2; isplitr; · ipureintro; exact h2
  iexact H2

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The whole program -/

set_option backward.isDefEq.respectTransparency.types false in
theorem run_program : θ_run defs (onTc (τ := τ) (main (F := F))) (s₀ m ρ)
    (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := entry m Variants.none) (hA := A_eq m) (G := G m)
    (hin := fun _ => .rfl) (hout := fun _ => .rfl)

/-- The one run, for any float arithmetic `F`: the result at `outcome`, the arguments unchanged, every semaphore at zero. -/
theorem run_main : θ_run defs (onTc (τ := τ) (main (F := F))) ⟨m, fun _ => 0, ρ⟩ (fun r =>
    (∀ c : Dev nD, r.2.mem ((c.tc : Thread nD τ).loc main_v2) = outcome m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) :=
  (θ_run defs _ _).mono (fun r h => by
    have keep (c : Dev nD) (b : Ref sig .tc) (hb : b ∈ Pipeline.restRefs sig spec0) (hr : b ∉ R0) : r.2.mem ((c.tc : Thread nD τ).loc b) = V m c b :=
      (h.1.toR c).2 b (Finset.mem_sdiff.mpr ⟨hb, hr⟩)
    exact ⟨fun c => ⟨(h.1.written c (by decide)).trans (G_result m c),
      (keep c main_arg0 (Pipeline.mem_restRefs_of main_arg0 (by decide) (by decide)) (by decide)).trans (V_main_arg0 m c),
      (keep c main_arg1 (Pipeline.mem_restRefs_of main_arg1 (by decide) (by decide)) (by decide)).trans (V_main_arg1 m c),
      (keep c main_arg2 (Pipeline.mem_restRefs_of main_arg2 (by decide) (by decide)) (by decide)).trans (V_main_arg2 m c),
      (keep c main_arg3 (Pipeline.mem_restRefs_of main_arg3 (by decide) (by decide)) (by decide)).trans (V_main_arg3 m c),
      (keep c main_arg4 (Pipeline.mem_restRefs_of main_arg4 (by decide) (by decide)) (by decide)).trans (V_main_arg4 m c)⟩, h.2⟩)
    (run_program m ρ)

/-- The run read at the arguments and the semaphores alone. -/
theorem run_frame : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) :=
  (θ_run defs _ _).mono (fun _ h => ⟨fun c => (h.1 c).2, h.2⟩) (run_main m ρ)

end Cert.KernelIdeal.Rows

end
-- ==== Proof.Staged.lean ====
/-
  What the kernel is handed in its staging buffers: the weights transposed and the bias as a single row, as the
  operations before the kernel left them.
-/
module

public import proofs.«01_k».proof.Proof.Frame

@[expose] public section

set_option maxRecDepth 16384

noncomputable section

namespace Cert.KernelIdeal.Rows

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- The staged weights are the whole array the transposition left. -/
theorem staged_w_whole (c : Dev nD) : staged_w m c = V m c main_v0 := by
  funext j
  show V m c main_v0 _ = V m c main_v0 j
  refine congrArg _ (funext fun a => Fin.ext ?_)
  match a with
  | ⟨0, _⟩ => show 0 + 1 * (j 0 : ℕ) = j 0; omega
  | ⟨1, _⟩ => show 0 + 1 * (j 1 : ℕ) = j 1; omega

/-- The staged bias is the whole array the reshape left. -/
theorem staged_b_whole (c : Dev nD) : staged_b m c = V m c main_v1 := by
  funext j
  show V m c main_v1 _ = V m c main_v1 j
  refine congrArg _ (funext fun a => Fin.ext ?_)
  match a with
  | ⟨0, _⟩ => show 0 + 1 * (j 0 : ℕ) = j 0; omega
  | ⟨1, _⟩ => show 0 + 1 * (j 1 : ℕ) = j 1; omega

/-- The staged weights: the weights transposed. -/
theorem staged_w_eq (c : Dev nD) :
    staged_w m c = transpose S128x128 [1, 0] (m ((c.tc : Thread nD τ).loc main_arg2)) transposes_S128x128_S128x128_1_0 := by
  rw [staged_w_whole]; rfl

/-- The staged bias: the bias as one row. -/
theorem staged_b_eq (c : Dev nD) :
    staged_b m c = shapeCast S1x128 (m ((c.tc : Thread nD τ).loc main_arg3)) shapeCasts_S128_S1x128 := by
  rw [staged_b_whole]; rfl

end Cert.KernelIdeal.Rows

end
-- ==== Proof.Equation.lean ====
/-
  The equation at the ideal values: what the kernel leaves, computed block by block, is what the reference computes
  from the whole arrays. At row `r` and column `q` both are `max (Σ k, x[r,k] · wᵀ[k,q] + b[q], 0)`.
-/
module

public import proofs.«01_k».proof.Proof.Staged
public import proofs.«01_k».proof.Proof.Gen.ReferenceIdeal.Run
public import Idealize.ShloMosaic.Lib.StackMember
public import Idealize.ShloMosaic.Lib.MatmulPlain
public import Idealize.ShloMosaic.Lib.KernelVsHost
public import Idealize.ShloMosaic.Lib.ValueIdx

@[expose] public section

set_option maxRecDepth 16384

noncomputable section

namespace Cert.KernelIdeal.Rows

open Cert.KernelIdeal Cert.KernelIdeal.Gen
open Idealize.ShloMosaic Idealize.ShloMosaic.TcCoe Idealize.ShloMosaic.ValueIdx Idealize.SL.Sem
open scoped BigOperators

/-! ## The kernel at an index -/

/-- A block's value at a row and a column of it. -/
theorem dense_apply (w : FVec Ideal S128x128 .f32) (b : FVec Ideal S1x128 .f32) (x : FVec Ideal S1000x128 .f32) (r : Fin 1000) (q : Fin 128) :
    dense w b x (ix2 r q)
      = max (∑ k : Fin 128, x (ix2 r k) * w (ix2 k q) + b (ix2 (0 : Fin 1) q)) (Scalar.ofBits (F := Ideal) .f32 0x00000000#32) := by
  have hm : matmul dot_S1000x128_S128x128_S1000x128_1_0_0_1_n_n none x w (constant S1000x128 .f32 0x00000000#32) (ix2 r q)
      = ∑ k : Fin 128, x (ix2 r k) * w (ix2 k q) := by
    rw [matmul_zero_eq_dotGeneral]
    exact StackMember.dotGeneral_plain_apply none x w r q
  have hb : broadcastTo S1000x128 b broadcasts_S1x128_S1000x128 (ix2 r q) = b (ix2 (0 : Fin 1) q) :=
    broadcastTo_apply _ _ _ _ (by
      intro a
      match a with
      | ⟨0, _⟩ => rfl
      | ⟨1, _⟩ => rfl)
  unfold dense
  rw [maximumf_apply, addf_apply, hm, hb]
  rfl

/-- The kernel's result at a row and a column of the whole array. -/
theorem result_apply (x : S10000x128.Idx → Elt Ideal .f32) (w : FVec Ideal S128x128 .f32) (b : FVec Ideal S1x128 .f32) (r : Fin 10000) (q : Fin 128) :
    result x w b (ix2 r q)
      = max (∑ k : Fin 128, x (ix2 r k) * w (ix2 k q) + b (ix2 (0 : Fin 1) q)) (Scalar.ofBits (F := Ideal) .f32 0x00000000#32) := by
  have hrow : ∀ k : Fin 128, rows x (blockOf (ix2 r q)) (ix2 (⟨(r : ℕ) % 1000, Nat.mod_lt _ (by decide)⟩ : Fin 1000) k) = x (ix2 r k) := by
    intro k
    refine congrArg x (funext fun a => Fin.ext ?_)
    match a with
    | ⟨0, _⟩ =>
      refine (block_emb_0 _ _).trans ?_
      show 1000 * ((r : ℕ) / 1000) + (r : ℕ) % 1000 = r
      omega
    | ⟨1, _⟩ => exact block_emb_1 _ _
  refine (dense_apply w b (rows x (blockOf (ix2 r q))) ⟨(r : ℕ) % 1000, Nat.mod_lt _ (by decide)⟩ q).trans ?_
  simp only [hrow]

/-! ## The reference at an index -/

/-- What the reference computes from the features, the weights and the bias. -/
def reference (x : FVec Ideal S10000x128 .f32) (w : FVec Ideal S128x128 .f32) (b : FVec Ideal S128 .f32) : FVec Ideal S10000x128 .f32 :=
  maximumf
    (addf (Host.dotGeneral Cert.ReferenceIdeal.dot_S10000x128_S128x128_S10000x128_1_0_0_1_n_n none x
        (transpose Cert.ReferenceIdeal.S128x128 [1, 0] w Cert.ReferenceIdeal.Facts₀.transposes_S128x128_S128x128_1_0))
      (broadcastInDim Cert.ReferenceIdeal.S10000x128 ![0, 1] Cert.ReferenceIdeal.Facts₀.bcast_S1x128_S10000x128_0_1
        (broadcastInDim Cert.ReferenceIdeal.S1x128 ![1] Cert.ReferenceIdeal.Facts₀.bcast_S128_S1x128_1 b)))
    (broadcastInDim Cert.ReferenceIdeal.S10000x128 ![] Cert.ReferenceIdeal.Facts₀.bcast_S_S10000x128
      (constant Cert.ReferenceIdeal.S_ .f32 0x00000000#32))

theorem reference_apply (x : FVec Ideal S10000x128 .f32) (w : FVec Ideal S128x128 .f32) (b : FVec Ideal S128 .f32) (r : Fin 10000) (q : Fin 128) :
    reference x w b (ix2 r q)
      = max (∑ k : Fin 128, x (ix2 r k) * transpose S128x128 [1, 0] w transposes_S128x128_S128x128_1_0 (ix2 k q) + b (ix1 q))
          (Scalar.ofBits (F := Ideal) .f32 0x00000000#32) := by
  have hd := StackMember.dotGeneral_plain_apply none x (transpose S128x128 [1, 0] w transposes_S128x128_S128x128_1_0) r q
  have hb : broadcastInDim Cert.ReferenceIdeal.S10000x128 ![0, 1] Cert.ReferenceIdeal.Facts₀.bcast_S1x128_S10000x128_0_1
      (broadcastInDim Cert.ReferenceIdeal.S1x128 ![1] Cert.ReferenceIdeal.Facts₀.bcast_S128_S1x128_1 b) (ix2 r q) = b (ix1 q) := by
    refine (broadcastInDim_apply _ _ _ _ (ix2 (0 : Fin 1) q) (by
      intro a
      match a with
      | ⟨0, _⟩ => rfl
      | ⟨1, _⟩ => rfl)).trans ?_
    exact broadcastInDim_apply _ _ _ _ (ix1 q) (by
      intro a
      match a with
      | ⟨0, _⟩ => rfl)
  unfold reference
  rw [maximumf_apply, addf_apply, hb]
  exact congrArg₂ max (congrArg (· + b (ix1 q)) hd) rfl

/-! ## The two agree -/

/-- The bias as one row, read in that row. -/
theorem bias_row (b : FVec Ideal S128 .f32) (q : Fin 128) : shapeCast S1x128 b shapeCasts_S128_S1x128 (ix2 (0 : Fin 1) q) = b (ix1 q) :=
  (shapeCast_addUnit_apply (n := 1) ![128] b _ (ix2 (0 : Fin 1) q)).trans (congrArg b (eq_ix1 _))

/-- The kernel's result, of the transposed weights and the bias as one row, is the reference's. -/
theorem result_eq_reference (x : FVec Ideal S10000x128 .f32) (w : FVec Ideal S128x128 .f32) (b : FVec Ideal S128 .f32) :
    result x (transpose S128x128 [1, 0] w transposes_S128x128_S128x128_1_0) (shapeCast S1x128 b shapeCasts_S128_S1x128) = reference x w b := by
  funext i
  obtain ⟨r, q, rfl⟩ : ∃ (r : Fin 10000) (q : Fin 128), i = ix2 r q := ⟨i 0, i 1, eq_ix2 i⟩
  rw [result_apply, reference_apply, bias_row]

/-- What the kernel leaves is the reference's function of the arguments. -/
theorem outcome_eq_reference (m : (ℓ : Loc nD τ sig) → Buf (Elt Ideal) ℓ) (c : Dev nD) :
    outcome m c = reference (m ((c.tc : Thread nD τ).loc main_arg0)) (m ((c.tc : Thread nD τ).loc main_arg2)) (m ((c.tc : Thread nD τ).loc main_arg3)) := by
  unfold outcome
  rw [staged_w_eq, staged_b_eq, V_main_arg0]
  exact result_eq_reference _ _ _

end Cert.KernelIdeal.Rows

end
-- ==== Proof.lean ====
/-
  The certificate of the graph layer's dense kernel. The kernel's run (Proof/Run.lean: its ten blocks through two rings
  of four slots; Proof/Frame.lean: the program around it) is proved once, for any float values; both frames of the
  kernel are that run read at its arguments. The reference's frame is its run, which is generated. The equation of the
  two results at the ideal values is Proof/Equation.lean's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frame
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem

/-- The kernel's body is the same in the two programs. -/
theorem body_eq (l : Cert.Kernel.Λ₀.Label) (x : Cert.Kernel.Λ₀.Args l) : Cert.KernelIdeal.defs₀ (F := Bits) .tc l x = Cert.Kernel.defs₀ (F := Bits) .tc l x := by
  match l, x with
  | 0, (t, s) => rfl
  | ⟨_ + 1, h⟩, _ => exact absurd h (by omega)

/-- So are the tables of bodies. -/
theorem defs₀_eq : Cert.KernelIdeal.defs₀ (F := Bits) = Cert.Kernel.defs₀ (F := Bits) := by
  funext p l x
  match p with
  | .tc => exact body_eq l x
  | .scScalar _ => rfl
  | .scVector _ _ => rfl

/-- The two programs call the same functions. -/
theorem defs_eq : Cert.KernelIdeal.defs (F := Bits) = Cert.Kernel.defs (F := Bits) := congrArg (Pipeline.defs Cert.Kernel.pcfgs) defs₀_eq

/-- The kernel leaves its arguments and its semaphores as they were. -/
theorem frame_kernel : Cert.quiescent_Kernel := fun m ρ _ => by
  have h := Cert.KernelIdeal.Rows.run_frame (F := Bits) m ρ
  rw [defs_eq] at h
  exact h

/-- The same at the ideal values. -/
theorem frame_kernelIdeal : Cert.quiescent_KernelIdeal := fun m ρ _ => Cert.KernelIdeal.Rows.run_frame (F := Ideal) m ρ

/-- The reference leaves its arguments as they were; it has no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- From the same arguments the kernel and the reference end with the same result. -/
theorem algebraic : Cert.algebraic_KernelIdeal_ReferenceIdeal := fun m ρ m' ρ' _ hag =>
  ⟨Cert.KernelIdeal.Rows.outcome m,
    (θ_run Cert.KernelIdeal.defs _ _).mono (fun _ h c => h.1 c) (Cert.KernelIdeal.Rows.run_main (F := Ideal) m ρ),
    (θ_run Cert.ReferenceIdeal.defs _ _).mono
      (fun r h c => ⟨(h c).1.trans (by
        obtain ⟨h0, -, h2, h3, -⟩ := hag c
        rw [h0, h2, h3]
        exact (Cert.KernelIdeal.Rows.outcome_eq_reference m c).symm), (h c).2⟩)
      (Cert.ReferenceIdeal.Value.run (F := Ideal) m' ρ')⟩

theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
